-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "sqrt2" .f32 0x3FB504F3#32 ((Real.sqrt 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x3 : Shape := ⟨2, ![50000, 3]⟩
abbrev S50000 : Shape := ⟨1, ![50000]⟩
abbrev S50000x1 : Shape := ⟨2, ![50000, 1]⟩
abbrev S50000x512 : Shape := ⟨2, ![50000, 512]⟩
abbrev S1000x3 : Shape := ⟨2, ![1000, 3]⟩
abbrev S1000x1 : Shape := ⟨2, ![1000, 1]⟩
abbrev S1000x512 : Shape := ⟨2, ![1000, 512]⟩
abbrev S1000x9 : Shape := ⟨2, ![1000, 9]⟩
abbrev S1000x8 : Shape := ⟨2, ![1000, 8]⟩
abbrev S8x512 : Shape := ⟨2, ![8, 512]⟩

abbrev nBuf : Space → Nat
  | .hbm => 8
  | .vmem => 12
  | .smem => 0
  | _ => 0

abbrev bufTy : (tb : Table) → Fin (tcTables nBuf tb) → BufTy
  | .hbm, ⟨0, _⟩ => ⟨S50000x3, .f32⟩
  | .hbm, ⟨1, _⟩ => ⟨S50000, .f32⟩
  | .hbm, ⟨2, _⟩ => ⟨S50000, .f32⟩
  | .hbm, ⟨3, _⟩ => ⟨S50000x3, .f32⟩
  | .hbm, ⟨4, _⟩ => ⟨S50000x1, .f32⟩
  | .hbm, ⟨5, _⟩ => ⟨S50000x1, .f32⟩
  | .hbm, ⟨6, _⟩ => ⟨S50000x512, .f32⟩
  | .hbm, ⟨7, _⟩ => ⟨S50000x3, .i32⟩
  | .local _ .vmem, ⟨0, _⟩ => ⟨S1000x3, .f32⟩
  | .local _ .vmem, ⟨1, _⟩ => ⟨S1000x3, .f32⟩
  | .local _ .vmem, ⟨2, _⟩ => ⟨S1000x1, .f32⟩
  | .local _ .vmem, ⟨3, _⟩ => ⟨S1000x1, .f32⟩
  | .local _ .vmem, ⟨4, _⟩ => ⟨S1000x1, .f32⟩
  | .local _ .vmem, ⟨5, _⟩ => ⟨S1000x1, .f32⟩
  | .local _ .vmem, ⟨6, _⟩ => ⟨S1000x3, .f32⟩
  | .local _ .vmem, ⟨7, _⟩ => ⟨S1000x3, .f32⟩
  | .local _ .vmem, ⟨8, _⟩ => ⟨S1000x512, .f32⟩
  | .local _ .vmem, ⟨9, _⟩ => ⟨S1000x512, .f32⟩
  | .local _ .vmem, ⟨10, _⟩ => ⟨S1000x3, .i32⟩
  | .local _ .vmem, ⟨11, _⟩ => ⟨S1000x3, .i32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x3 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "sqrt2" => some ((Real.sqrt 2 : ℝ) : EReal)
  | _ => none
-- ==== ReferenceIdeal.lean ====
abbrev S50000x3 : Shape := ⟨2, ![50000, 3]⟩
abbrev S50000 : Shape := ⟨1, ![50000]⟩
abbrev S3 : Shape := ⟨1, ![3]⟩
abbrev S50000x1 : Shape := ⟨2, ![50000, 1]⟩
abbrev S_ : Shape := ⟨0, ![]⟩
abbrev S1x3 : Shape := ⟨2, ![1, 3]⟩
abbrev S9 : Shape := ⟨1, ![9]⟩
abbrev S50000x3x1 : Shape := ⟨3, ![50000, 3, 1]⟩
abbrev S1x1x9 : Shape := ⟨3, ![1, 1, 9]⟩
abbrev S50000x3x9 : Shape := ⟨3, ![50000, 3, 9]⟩
abbrev S1x3x1 : Shape := ⟨3, ![1, 3, 1]⟩
abbrev S50000x3x8 : Shape := ⟨3, ![50000, 3, 8]⟩
abbrev S50000x1x1x1 : Shape := ⟨4, ![50000, 1, 1, 1]⟩
abbrev S50000x1x8 : Shape := ⟨3, ![50000, 1, 8]⟩
abbrev S50000x8 : Shape := ⟨2, ![50000, 8]⟩
abbrev S50000x8x1x1 : Shape := ⟨4, ![50000, 8, 1, 1]⟩
abbrev S50000x1x8x1 : Shape := ⟨4, ![50000, 1, 8, 1]⟩
abbrev S50000x8x8x1 : Shape := ⟨4, ![50000, 8, 8, 1]⟩
abbrev S50000x1x1x8 : Shape := ⟨4, ![50000, 1, 1, 8]⟩
abbrev S50000x8x8x8 : Shape := ⟨4, ![50000, 8, 8, 8]⟩
abbrev S50000x512 : Shape := ⟨2, ![50000, 512]⟩

abbrev nBuf : Space → Nat
  | .hbm => 73
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000, .f32⟩
  | .hbm, ⟨2, _⟩ => ⟨S50000, .f32⟩
  | .hbm, ⟨3, _⟩ => ⟨S50000x3, .f32⟩
  | .hbm, ⟨4, _⟩ => ⟨S3, .f32⟩
  | .hbm, ⟨5, _⟩ => ⟨S50000x1, .f32⟩
  | .hbm, ⟨6, _⟩ => ⟨S50000, .f32⟩
  | .hbm, ⟨7, _⟩ => ⟨S50000x1, .f32⟩
  | .hbm, ⟨8, _⟩ => ⟨S50000, .f32⟩
  | .hbm, ⟨9, _⟩ => ⟨S50000x1, .f32⟩
  | .hbm, ⟨10, _⟩ => ⟨S50000x1, .f32⟩
  | .hbm, ⟨11, _⟩ => ⟨S50000x1, .f32⟩
  | .hbm, ⟨12, _⟩ => ⟨S50000x3, .f32⟩
  | .hbm, ⟨13, _⟩ => ⟨S_, .f32⟩
  | .hbm, ⟨14, _⟩ => ⟨S50000x3, .f32⟩
  | .hbm, ⟨15, _⟩ => ⟨S50000x3, .f32⟩
  | .hbm, ⟨16, _⟩ => ⟨S_, .f32⟩
  | .hbm, ⟨17, _⟩ => ⟨S50000x3, .f32⟩
  | .hbm, ⟨18, _⟩ => ⟨S50000x3, .f32⟩
  | .hbm, ⟨19, _⟩ => ⟨S50000x3, .f32⟩
  | .hbm, ⟨20, _⟩ => ⟨S1x3, .f32⟩
  | .hbm, ⟨21, _⟩ => ⟨S50000x3, .f32⟩
  | .hbm, ⟨22, _⟩ => ⟨S50000x3, .f32⟩
  | .hbm, ⟨23, _⟩ => ⟨S50000x3, .f32⟩
  | .hbm, ⟨24, _⟩ => ⟨S50000x3, .i32⟩
  | .hbm, ⟨25, _⟩ => ⟨S9, .f32⟩
  | .hbm, ⟨26, _⟩ => ⟨S50000x3x1, .f32⟩
  | .hbm, ⟨27, _⟩ => ⟨S1x1x9, .f32⟩
  | .hbm, ⟨28, _⟩ => ⟨S50000x3x9, .f32⟩
  | .hbm, ⟨29, _⟩ => ⟨S50000x3x9, .f32⟩
  | .hbm, ⟨30, _⟩ => ⟨S50000x3x9, .f32⟩
  | .hbm, ⟨31, _⟩ => ⟨S1x3x1, .f32⟩
  | .hbm, ⟨32, _⟩ => ⟨S50000x3x9, .f32⟩
  | .hbm, ⟨33, _⟩ => ⟨S50000x3x9, .f32⟩
  | .hbm, ⟨34, _⟩ => ⟨S50000x3x1, .f32⟩
  | .hbm, ⟨35, _⟩ => ⟨S50000x3x9, .f32⟩
  | .hbm, ⟨36, _⟩ => ⟨S50000x3x9, .f32⟩
  | .hbm, ⟨37, _⟩ => ⟨S_, .f32⟩
  | .hbm, ⟨38, _⟩ => ⟨S_, .f32⟩
  | .hbm, ⟨39, _⟩ => ⟨S50000x3x1, .f32⟩
  | .hbm, ⟨40, _⟩ => ⟨S50000x3x1, .f32⟩
  | .hbm, ⟨41, _⟩ => ⟨S50000x3x1, .f32⟩
  | .hbm, ⟨42, _⟩ => ⟨S50000x3x9, .f32⟩
  | .hbm, ⟨43, _⟩ => ⟨S50000x3x9, .f32⟩
  | .hbm, ⟨44, _⟩ => ⟨S50000x3x9, .f32⟩
  | .hbm, ⟨45, _⟩ => ⟨S_, .f32⟩
  | .hbm, ⟨46, _⟩ => ⟨S50000x3x9, .f32⟩
  | .hbm, ⟨47, _⟩ => ⟨S50000x3x9, .f32⟩
  | .hbm, ⟨48, _⟩ => ⟨S_, .f32⟩
  | .hbm, ⟨49, _⟩ => ⟨S50000x3x9, .f32⟩
  | .hbm, ⟨50, _⟩ => ⟨S50000x3x9, .f32⟩
  | .hbm, ⟨51, _⟩ => ⟨S50000x3x8, .f32⟩
  | .hbm, ⟨52, _⟩ => ⟨S50000x3x8, .f32⟩
  | .hbm, ⟨53, _⟩ => ⟨S50000x3x8, .f32⟩
  | .hbm, ⟨54, _⟩ => ⟨S50000x1x1x1, .f32⟩
  | .hbm, ⟨55, _⟩ => ⟨S50000x1x8, .f32⟩
  | .hbm, ⟨56, _⟩ => ⟨S50000x8, .f32⟩
  | .hbm, ⟨57, _⟩ => ⟨S50000x8x1x1, .f32⟩
  | .hbm, ⟨58, _⟩ => ⟨S50000x8x1x1, .f32⟩
  | .hbm, ⟨59, _⟩ => ⟨S50000x8x1x1, .f32⟩
  | .hbm, ⟨60, _⟩ => ⟨S50000x1x8, .f32⟩
  | .hbm, ⟨61, _⟩ => ⟨S50000x8, .f32⟩
  | .hbm, ⟨62, _⟩ => ⟨S50000x1x8x1, .f32⟩
  | .hbm, ⟨63, _⟩ => ⟨S50000x8x8x1, .f32⟩
  | .hbm, ⟨64, _⟩ => ⟨S50000x8x8x1, .f32⟩
  | .hbm, ⟨65, _⟩ => ⟨S50000x8x8x1, .f32⟩
  | .hbm, ⟨66, _⟩ => ⟨S50000x1x8, .f32⟩
  | .hbm, ⟨67, _⟩ => ⟨S50000x8, .f32⟩
  | .hbm, ⟨68, _⟩ => ⟨S50000x1x1x8, .f32⟩
  | .hbm, ⟨69, _⟩ => ⟨S50000x8x8x8, .f32⟩
  | .hbm, ⟨70, _⟩ => ⟨S50000x8x8x8, .f32⟩
  | .hbm, ⟨71, _⟩ => ⟨S50000x8x8x8, .f32⟩
  | .hbm, ⟨72, _⟩ => ⟨S50000x512, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩

abbrev nD : Nat := 1
abbrev τ : Topo := Topo.v7x

variable {F : FTy → Type} [FloatOps F]
-- ==== Proof.Consts.lean ====
/- UNTRUSTED — the two float constants of this certificate that a value proof has to open: the reference's `2.0`, of
   which it takes the root, and the kernel's named constant "sqrt2". Both are read here once. -/
module

public import proofs.«01_k».proof.KernelIdeal
public import Idealize.ShloMosaic.PureOps.Ideal
public import Idealize.ShloMosaic.PureOps.IdealRules

@[expose] public section

noncomputable section

namespace Cert.Raster

open Idealize.ShloMosaic

/-- The reference's `2.0` is the real number 2. -/
theorem two_word : Ideal.ofBits .f32 0x40000000#32 = ((2 : ℝ) : EReal) := by
  simp [Ideal.ofBits, Ideal.ieee, -EReal.coe_mul]; norm_num

/-- The square root the reference takes of it is the real number `√2`. -/
theorem root_two : Ideal.sqrt (Ideal.ofBits .f32 0x40000000#32) = ((Real.sqrt 2 : ℝ) : EReal) := by
  rw [two_word, Ideal.sqrt_coe, if_neg (by norm_num)]

/-- The kernel's named constant is the real number `√2`. -/
theorem sqrt2_named :
    Named.named (F := Ideal) Cert.KernelIdeal.κ "sqrt2" (φ := .f32) 0x3FB504F3#32 = ((Real.sqrt 2 : ℝ) : EReal) :=
  IdealRules.named_const.ideal_named_scalar _ _ _ _ rfl

/-- Dividing by the reference's grid step, which is 1, changes no extended real. -/
theorem div_unit (x : EReal) : Ideal.div x 1 = x := by
  have h := Ideal.div_coe (y := 1) one_ne_zero x
  simpa using h

end Cert.Raster

end
-- ==== Proof.Spec.lean ====
/- UNTRUSTED — the function both programs compute, on extended reals, one row at a time.

   A row has a centre and a width in each of three dimensions. In one dimension the patch starts at the grid line at or
   below `centre - 3 * width`; it has nine edges, one grid step apart, and eight bins, and a bin's weight is the
   difference of the Gaussian's distribution function at the bin's two edges. The row's value at patch position `j` is
   its charge times the weights of bins `j / 64`, `j / 8 % 8` and `j % 8` in dimensions 0, 1 and 2. -/
module

public import Idealize.ShloMosaic.PureOps.Ideal
public import Idealize.ShloMosaic.Lib.Pointwise.Index

@[expose] public section

noncomputable section

namespace Cert.Raster

open Idealize.ShloMosaic

/-- A width, kept from being smaller than the constant `1e-6` of both programs. -/
def width (s : EReal) : EReal := max s (Ideal.ofBits .f32 0x358637BD#32)

/-- The patch's first edge in one dimension: the centre less three widths, rounded down. -/
def low (c s : EReal) : EReal := Ideal.liftRound Int.floor (c - Ideal.ofBits .f32 0x40400000#32 * s)

/-- The number `k` as its 32-bit word counts it: how far edge `k` lies from edge 0. -/
def step (k : ℕ) : EReal := (((BitVec.ofNat 32 k).toInt : ℝ) : EReal)

/-- The Gaussian's distribution function at edge `k`: `0.5 * (1 + erf ((edge - centre) / (√2 * width)))`. -/
def cdf (c s : EReal) (k : ℕ) : EReal :=
  Ideal.ofBits .f32 0x3F000000#32 * (1 + Ideal.erf (Ideal.div (low c s + step k - c) (((Real.sqrt 2 : ℝ) : EReal) * s)))

/-- The weight of bin `k`: the distribution function at its upper edge less that at its lower. -/
def bin (c s : EReal) (k : ℕ) : EReal := cdf c s (1 + k) - cdf c s k

/-- A row's value at patch position `j`, from its charge `q`, its centres and its (kept) widths. -/
def value (q c₀ c₁ c₂ s₀ s₁ s₂ : EReal) (j : ℕ) : EReal :=
  q * bin c₀ s₀ (j / 64) * bin c₁ s₁ (j / 8 % 8) * bin c₂ s₂ (j % 8)

/-- The first edge as an integer word: what the second result holds. -/
def offset (c s : EReal) : BitVec 32 := Ideal.fptosi 32 (low c s)

/-- The centre of row `i` in dimension `d`: the tail's columns 1 and 2, then the time. -/
def centre (time : FVec Ideal ⟨1, ![50000]⟩ .f32) (tail : FVec Ideal ⟨2, ![50000, 3]⟩ .f32) (i : Fin 50000) (d : Fin 3) : EReal :=
  ![tail (ix2 i 1), tail (ix2 i 2), time (ix1 i)] d

/-- The first result as an array: each row's 512 values. -/
def rast (sigma : FVec Ideal ⟨2, ![50000, 3]⟩ .f32) (time charge : FVec Ideal ⟨1, ![50000]⟩ .f32)
    (tail : FVec Ideal ⟨2, ![50000, 3]⟩ .f32) : FVec Ideal ⟨2, ![50000, 512]⟩ .f32 := fun y =>
  have i : Fin 50000 := y 0
  have j : Fin 512 := y 1
  value (charge (ix1 i)) (centre time tail i 0) (centre time tail i 1) (centre time tail i 2)
    (width (sigma (ix2 i 0))) (width (sigma (ix2 i 1))) (width (sigma (ix2 i 2))) j.val

/-- The second result as an array: each row's three first edges. -/
def offsets (sigma : FVec Ideal ⟨2, ![50000, 3]⟩ .f32) (time : FVec Ideal ⟨1, ![50000]⟩ .f32)
    (tail : FVec Ideal ⟨2, ![50000, 3]⟩ .f32) : IVec ⟨2, ![50000, 3]⟩ 32 := fun y =>
  have i : Fin 50000 := y 0
  have d : Fin 3 := y 1
  offset (centre time tail i d) (width (sigma (ix2 i d)))

end Cert.Raster

end
-- ==== Proof.Bins.lean ====
/- UNTRUSTED — the kernel's three weight vectors of a block, at an index: each is the bin weight of its row's centre and
   width in one dimension. -/
module

public import proofs.«01_k».proof.Proof.Gen.KernelIdeal.Skeleton
public import proofs.«01_k».proof.Proof.Consts
public import proofs.«01_k».proof.Proof.Spec
public import Idealize.ShloMosaic.Lib.Pointwise

@[expose] public section

noncomputable section

namespace Cert.Raster

open Idealize.ShloMosaic Cert.KernelIdeal Cert.KernelIdeal.Gen

/-- Dimension 0: the weights the kernel computes from the widths' column 0 and the tail's column 1. -/
theorem bins0 (v0 v7 : Vec Ideal S1000x3 .f32) (r : Fin 1000) (k : Fin 8) :
    k0_pay11 (F := Ideal) v0 v7 (ix2 r k) = bin (v7 (ix2 r 1)) (width (v0 (ix2 r 0))) k.val := by
  unfold_payloads
  pointwise [sqrt2_named, Ideal.erf_def]
  rfl

/-- Dimension 1: from the widths' column 1 and the tail's column 2. -/
theorem bins1 (v0 v7 : Vec Ideal S1000x3 .f32) (r : Fin 1000) (k : Fin 8) :
    k0_pay16 (F := Ideal) (k0_pay12 v0) (k0_pay15 v0 v7) (Named.named κ "sqrt2" 0x3FB504F3#32) (ix2 r k)
      = bin (v7 (ix2 r 2)) (width (v0 (ix2 r 1))) k.val := by
  unfold_payloads
  pointwise [sqrt2_named, Ideal.erf_def]
  rfl

/-- Dimension 2: from the widths' column 2 and the time. -/
theorem bins2 (v0 : Vec Ideal S1000x3 .f32) (v3 : Vec Ideal S1000x1 .f32) (r : Fin 1000) (k : Fin 8) :
    k0_pay19 (F := Ideal) (k0_pay2 v0) (k0_pay3 v3) k0_pay7 (ix2 r k)
      = bin (v3 (ix2 r 0)) (width (v0 (ix2 r 2))) k.val := by
  unfold_payloads
  pointwise [sqrt2_named, Ideal.erf_def]
  rfl

/-- The first edges as integers, column by column. -/
theorem offsets0 (v0 v7 : Vec Ideal S1000x3 .f32) (v3 : Vec Ideal S1000x1 .f32) (r : Fin 1000) :
    k0_pay20 (F := Ideal) (k0_pay2 v0) (k0_pay3 v3) (k0_pay10 v0 v7) (k0_pay14 v0 v7) (ix2 r 0)
      = offset (v7 (ix2 r 1)) (width (v0 (ix2 r 0))) := by
  unfold_payloads
  pointwise
  rfl

/-- Column 1 of the first edges. -/
theorem offsets1 (v0 v7 : Vec Ideal S1000x3 .f32) (v3 : Vec Ideal S1000x1 .f32) (r : Fin 1000) :
    k0_pay20 (F := Ideal) (k0_pay2 v0) (k0_pay3 v3) (k0_pay10 v0 v7) (k0_pay14 v0 v7) (ix2 r 1)
      = offset (v7 (ix2 r 2)) (width (v0 (ix2 r 1))) := by
  unfold_payloads
  pointwise
  rfl

/-- Column 2 of the first edges. -/
theorem offsets2 (v0 v7 : Vec Ideal S1000x3 .f32) (v3 : Vec Ideal S1000x1 .f32) (r : Fin 1000) :
    k0_pay20 (F := Ideal) (k0_pay2 v0) (k0_pay3 v3) (k0_pay10 v0 v7) (k0_pay14 v0 v7) (ix2 r 2)
      = offset (v3 (ix2 r 0)) (width (v0 (ix2 r 2))) := by
  unfold_payloads
  pointwise
  rfl

/-- The block of first edges at any of its three columns: from that column's centre and width. -/
theorem offsets_block (v0 v7 : Vec Ideal S1000x3 .f32) (v3 : Vec Ideal S1000x1 .f32) (r : Fin 1000) (d : Fin 3) :
    k0_pay20 (F := Ideal) (k0_pay2 v0) (k0_pay3 v3) (k0_pay10 v0 v7) (k0_pay14 v0 v7) (ix2 r d)
      = offset ((![v7 (ix2 r 1), v7 (ix2 r 2), v3 (ix2 r 0)] : Fin 3 → EReal) d) (width (v0 (ix2 r d))) := by
  match d with
  | 0 => exact offsets0 v0 v7 v3 r
  | 1 => exact offsets1 v0 v7 v3 r
  | 2 => exact offsets2 v0 v7 v3 r

end Cert.Raster

end
-- ==== Proof.Select.lean ====
/- UNTRUSTED — the kernel's selection matrices, and its products with them.

   The kernel spreads a row's eight weights over the 512 patch positions by a product with a matrix of zeros and ones,
   which holds a one where the row number is the position's bin. On extended reals such a product reads one weight:
   every other term is a product with 0, which is 0 whatever the weight is. -/
module

public import proofs.«01_k».proof.Proof.Gen.KernelIdeal.Frame
public import Idealize.ShloMosaic.Lib.Pointwise

@[expose] public section

noncomputable section

namespace Cert.Raster

open Idealize.ShloMosaic Cert.KernelIdeal Cert.KernelIdeal.Gen

/-- The floor quotient by a positive word `d`, as the kernel spells it: the truncated quotient, less one where the signs
    differ and the division is not exact. -/
def divWord (d x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- The floor remainder by 8, as the kernel spells it: the truncated remainder, plus 8 where the signs differ and it is
    not zero. -/
def modWord (x : BitVec 32) : BitVec 32 :=
  have d : BitVec 32 := Scalar.select (Scalar.cmpi .eq 8#32 0#32) 1#32 8#32
  have y : BitVec 32 := IntOp.remsi .vector x d
  Scalar.select
    (IntOp.andi (IntOp.xori (IntOp.cmpi .slt y 0#32) (Scalar.cmpi .slt d 0#32)) (IntOp.cmpi .ne y 0#32))
    (IntOp.addi y d) y

/-- An entry of a selection matrix: 1 where two words are equal, 0 elsewhere. -/
def hit (a b : BitVec 32) : EReal := FloatOps.sitofp (F := Ideal) .f32 (BitVec.setWidth 32 (IntOp.cmpi .eq a b))

/-- At a patch position the floor quotient by 64 is the quotient of natural numbers. -/
theorem divWord_64 : ∀ j : Fin 512, divWord 64#32 (BitVec.ofNat 32 j.val) = BitVec.ofNat 32 (j.val / 64) := by
  decide +kernel

/-- The remainder by 8 of the quotient by 8, likewise. -/
theorem modWord_div : ∀ j : Fin 512, modWord (divWord 8#32 (BitVec.ofNat 32 j.val)) = BitVec.ofNat 32 (j.val / 8 % 8) := by
  decide +kernel

/-- The remainder by 8, likewise. -/
theorem modWord_self : ∀ j : Fin 512, modWord (BitVec.ofNat 32 j.val) = BitVec.ofNat 32 (j.val % 8) := by
  decide +kernel

/-- For two bin numbers the entry is 1 if they are the same and 0 if not. -/
theorem hit_eq (a b : Fin 8) : hit (BitVec.ofNat 32 a.val) (BitVec.ofNat 32 b.val) = if b = a then 1 else 0 := by
  have h : ∀ a b : Fin 8, BitVec.setWidth 32 (IntOp.cmpi .eq (BitVec.ofNat 32 a.val) (BitVec.ofNat 32 b.val))
      = if b = a then 1#32 else 0#32 := by decide
  show (((BitVec.setWidth 32 (IntOp.cmpi .eq (BitVec.ofNat 32 a.val) (BitVec.ofNat 32 b.val))).toInt : ℝ) : EReal) = _
  rw [h]
  split <;> simp

/-- A sum of eight extended reals, each times a selection entry of column `n`, is the selected one. -/
theorem sum_hit (w : Fin 8 → EReal) (n : ℕ) (hn : n < 8) :
    ∑ k : Fin 8, w k * hit (BitVec.ofNat 32 n) (BitVec.ofNat 32 k.val) = w ⟨n, hn⟩ := by
  have h (k : Fin 8) : w k * hit (BitVec.ofNat 32 n) (BitVec.ofNat 32 k.val) = if k = ⟨n, hn⟩ then w k else 0 := by
    rw [hit_eq ⟨n, hn⟩ k, mul_ite, mul_one, mul_zero]
  rw [Finset.sum_congr rfl fun k _ => h k, Finset.sum_ite_eq' Finset.univ, if_pos (Finset.mem_univ _)]

/-- The column numbers of the selection matrices. -/
abbrev cols : IVec S8x512 32 := iota .tc S8x512 32 [1] iota_S8x512_d1_w32
/-- Their row numbers. -/
abbrev rows : IVec S8x512 32 := iota .tc S8x512 32 [0] iota_S8x512_d0_w32

/-- The stored block at an index, with its three products still sums over the eight bins. -/
theorem products (q : Vec Ideal S1000x1 .f32) (w0 w1 w2 : FVec Ideal S1000x8 .f32) (r : Fin 1000) (j : Fin 512) :
    k0_pay1 (F := Ideal) (k0_pay4 q) w0 w1 w2 cols rows (k0_pay23 (F := Ideal) cols rows 64#32 k0_pay21 k0_pay22 0#32)
        (Scalar.select (Scalar.cmpi .eq 8#32 0#32) 1#32 8#32) (k0_pay24 cols) 0#32 (ix2 r j)
      = (∑ k : Fin 8, q (ix2 r 0) * w0 (ix2 r k) * hit (divWord 64#32 (BitVec.ofNat 32 j.val)) (BitVec.ofNat 32 k.val))
        * (∑ k : Fin 8, w1 (ix2 r k) * hit (modWord (divWord 8#32 (BitVec.ofNat 32 j.val))) (BitVec.ofNat 32 k.val))
        * (∑ k : Fin 8, w2 (ix2 r k) * hit (modWord (BitVec.ofNat 32 j.val)) (BitVec.ofNat 32 k.val)) := by
  unfold_payloads
  pointwise [dot_S1000x8_S8x512_S1000x512_1_0_0_1_n_n]
  rfl

/-- The stored block at an index: the charge times one weight of each dimension. -/
theorem products_eq (q : Vec Ideal S1000x1 .f32) (w0 w1 w2 : FVec Ideal S1000x8 .f32) (r : Fin 1000) (j : Fin 512) :
    k0_pay1 (F := Ideal) (k0_pay4 q) w0 w1 w2 cols rows (k0_pay23 (F := Ideal) cols rows 64#32 k0_pay21 k0_pay22 0#32)
        (Scalar.select (Scalar.cmpi .eq 8#32 0#32) 1#32 8#32) (k0_pay24 cols) 0#32 (ix2 r j)
      = q (ix2 r 0) * w0 (ix2 r ⟨j.val / 64, by omega⟩) * w1 (ix2 r ⟨j.val / 8 % 8, by omega⟩)
        * w2 (ix2 r ⟨j.val % 8, by omega⟩) := by
  rw [products, divWord_64, modWord_div, modWord_self,
    sum_hit (fun k => q (ix2 r 0) * w0 (ix2 r k)) (j.val / 64) (by omega),
    sum_hit (fun k => w1 (ix2 r k)) (j.val / 8 % 8) (by omega), sum_hit (fun k => w2 (ix2 r k)) (j.val % 8) (by omega)]

end Cert.Raster

end
-- ==== Proof.Blocks.lean ====
/- UNTRUSTED — the kernel's two result arrays: what each grid point writes is its block of a thousand rows of the arrays
   of Proof/Spec.lean, and the fifty blocks are all the rows. -/
module

public import proofs.«01_k».proof.Proof.Gen.KernelIdeal.Value
public import proofs.«01_k».proof.Proof.Bins
public import proofs.«01_k».proof.Proof.Select

@[expose] public section

noncomputable section

namespace Cert.Raster

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## One block -/

/-- Zero offsets, as the accesses of the body spell them. -/
theorem origin : (![0, 0] : Fin 2 → ℕ) = fun _ => 0 := funext fun a => by fin_cases a <;> rfl

/-- The first output block at an index: the patch value of the row's charge, centres and widths in the input blocks. -/
theorem rast_block (x0 : Vec Ideal S1000x3 .f32) (x1 x2 : Vec Ideal S1000x1 .f32) (x3 : Vec Ideal S1000x3 .f32)
    (r : Fin 1000) (j : Fin 512) :
    out0_4 (F := Ideal) x0 x1 x2 x3 (ix2 r j)
      = value (x2 (ix2 r 0)) (x3 (ix2 r 1)) (x3 (ix2 r 2)) (x1 (ix2 r 0))
          (width (x0 (ix2 r 0))) (width (x0 (ix2 r 1))) (width (x0 (ix2 r 2))) j.val := by
  unfold_out out0_4
  rw [View.canon_unit_zero origin]
  simp only [View.ld_unit_zero (S := S1000x3) origin, View.ld_unit_zero (S := S1000x1) origin]
  rw [products_eq, bins0, bins1, bins2]
  rfl

/-- The second output block at an index: the first edge of the row's centre and width in that column. -/
theorem offset_block (x0 : Vec Ideal S1000x3 .f32) (x1 x2 : Vec Ideal S1000x1 .f32) (x3 : Vec Ideal S1000x3 .f32)
    (r : Fin 1000) (d : Fin 3) :
    out0_5 (F := Ideal) x0 x1 x2 x3 (ix2 r d)
      = offset ((![x3 (ix2 r 1), x3 (ix2 r 2), x1 (ix2 r 0)] : Fin 3 → EReal) d) (width (x0 (ix2 r d))) := by
  unfold_out out0_5
  rw [View.canon_unit_zero origin]
  simp only [View.ld_unit_zero (S := S1000x3) origin, View.ld_unit_zero (S := S1000x1) origin]
  exact offsets_block x0 x3 x1 r d

/-! ## The input blocks, read off the arguments -/

/-- Row `r` of grid point `t`'s block, as a row of the arrays. -/
def row (t : Fin cfg0.N) (r : Fin 1000) : Fin 50000 :=
  ⟨t.val * 1000 + r.val, by have : t.val < 50 := t.isLt; omega⟩

/-- Every window's block at point `t` is the `t`-th from the top and the first from the left. -/
theorem index_at : ∀ (w : Fin cfg0.W) (t : Fin cfg0.N),
    (∀ a, (cfg0.win w).index t a = if a.val = 0 then t.val else 0) := by
  decide +kernel

/-- The widths' block. -/
theorem sigma_block (c : Dev nD) (t : Fin cfg0.N) (r : Fin 1000) (k : Fin 3) :
    (iblk m c 0 t : Vec Ideal S1000x3 .f32) (ix2 r k) = m ((c : Thread nD τ).loc main_arg0) (ix2 (row t r) k) := by
  show V m c main_arg0 _ = _
  rw [V_main_arg0]
  congr 1
  funext a
  apply Fin.ext
  match a with
  | ⟨0, _⟩ => show win0_0.index t 0 * 1000 + 1 * r.val = t.val * 1000 + r.val
              rw [show win0_0.index t 0 = t.val from index_at 0 t 0, one_mul]
  | ⟨1, _⟩ => show win0_0.index t 1 * 3 + 1 * k.val = k.val
              rw [show win0_0.index t 1 = 0 from index_at 0 t 1]; omega

/-- The tail's block. -/
theorem tail_block (c : Dev nD) (t : Fin cfg0.N) (r : Fin 1000) (k : Fin 3) :
    (iblk m c 3 t : Vec Ideal S1000x3 .f32) (ix2 r k) = m ((c : Thread nD τ).loc main_arg3) (ix2 (row t r) k) := by
  show V m c main_arg3 _ = _
  rw [V_main_arg3]
  congr 1
  funext a
  apply Fin.ext
  match a with
  | ⟨0, _⟩ => show win0_3.index t 0 * 1000 + 1 * r.val = t.val * 1000 + r.val
              rw [show win0_3.index t 0 = t.val from index_at 3 t 0, one_mul]
  | ⟨1, _⟩ => show win0_3.index t 1 * 3 + 1 * k.val = k.val
              rw [show win0_3.index t 1 = 0 from index_at 3 t 1]; omega

/-- The region finds the time as a column: the host's reshape of the argument. -/
theorem time_column (c : Dev nD) :
    V m c main_v0 = shapeCast S50000x1 (m ((c : Thread nD τ).loc main_arg1)) shapeCasts_S50000_S50000x1 := by
  show StableHlo.after hostOps0 _ _ = _
  after_results
  rfl

/-- And the charge, likewise. -/
theorem charge_column (c : Dev nD) :
    V m c main_v1 = shapeCast S50000x1 (m ((c : Thread nD τ).loc main_arg2)) shapeCasts_S50000_S50000x1 := by
  show StableHlo.after hostOps0 _ _ = _
  after_results
  rfl

/-- A vector seen as a column, at an index. -/
theorem column_apply (x : FVec Ideal S50000 .f32) (i : Fin 50000) :
    shapeCast S50000x1 x shapeCasts_S50000_S50000x1 (ix2 i 0) = x (ix1 i) := by
  pointwise

/-- The time's block. -/
theorem time_block (c : Dev nD) (t : Fin cfg0.N) (r : Fin 1000) :
    (iblk m c 1 t : Vec Ideal S1000x1 .f32) (ix2 r 0) = m ((c : Thread nD τ).loc main_arg1) (ix1 (row t r)) := by
  show V m c main_v0 _ = _
  rw [time_column]
  refine Eq.trans (congrArg _ ?_) (column_apply _ (row t r))
  funext a
  apply Fin.ext
  match a with
  | ⟨0, _⟩ => show win0_1.index t 0 * 1000 + 1 * r.val = t.val * 1000 + r.val
              rw [show win0_1.index t 0 = t.val from index_at 1 t 0, one_mul]
  | ⟨1, _⟩ => show win0_1.index t 1 * 1 + 1 * 0 = 0
              rw [show win0_1.index t 1 = 0 from index_at 1 t 1]

/-- The charge's block. -/
theorem charge_block (c : Dev nD) (t : Fin cfg0.N) (r : Fin 1000) :
    (iblk m c 2 t : Vec Ideal S1000x1 .f32) (ix2 r 0) = m ((c : Thread nD τ).loc main_arg2) (ix1 (row t r)) := by
  show V m c main_v1 _ = _
  rw [charge_column]
  refine Eq.trans (congrArg _ ?_) (column_apply _ (row t r))
  funext a
  apply Fin.ext
  match a with
  | ⟨0, _⟩ => show win0_2.index t 0 * 1000 + 1 * r.val = t.val * 1000 + r.val
              rw [show win0_2.index t 0 = t.val from index_at 2 t 0, one_mul]
  | ⟨1, _⟩ => show win0_2.index t 1 * 1 + 1 * 0 = 0
              rw [show win0_2.index t 1 = 0 from index_at 2 t 1]

/-! ## The two result arrays -/

/-- The first result array of device `c`: the patch values of its arguments. -/
abbrev rastOf (c : Dev nD) : FVec Ideal S50000x512 .f32 :=
  rast (m ((c : Thread nD τ).loc main_arg0)) (m ((c : Thread nD τ).loc main_arg1)) (m ((c : Thread nD τ).loc main_arg2))
    (m ((c : Thread nD τ).loc main_arg3))

/-- The second: the first edges of its arguments. -/
abbrev offsetsOf (c : Dev nD) : IVec S50000x3 32 :=
  offsets (m ((c : Thread nD τ).loc main_arg0)) (m ((c : Thread nD τ).loc main_arg1)) (m ((c : Thread nD τ).loc main_arg3))

/-- Grid point `t` writes its thousand rows of the first array. -/
theorem rast_written (c : Dev nD) (t : Fin cfg0.N) :
    (dats m 0 c).flushed 4 t = (win0_4.blk t).view.read (Elt Ideal) (rastOf m c) := by
  rw [Cert.KernelIdeal.Value.flushed4]
  funext y
  obtain ⟨r, j, rfl⟩ : ∃ (r : Fin 1000) (j : Fin 512), y = ix2 r j := ⟨y 0, y 1, ValueIdx.eq_ix2 y⟩
  have e : ((win0_4.blk t).view.emb (ix2 r j) : S50000x512.Idx) = ix2 (row t r) j := by
    funext a
    apply Fin.ext
    match a with
    | ⟨0, _⟩ => show win0_4.index t 0 * 1000 + 1 * r.val = t.val * 1000 + r.val
                rw [show win0_4.index t 0 = t.val from index_at 4 t 0, one_mul]
    | ⟨1, _⟩ => show win0_4.index t 1 * 512 + 1 * j.val = j.val
                rw [show win0_4.index t 1 = 0 from index_at 4 t 1]; omega
  show out0_4 (F := Ideal) (iblk m c 0 t) (iblk m c 1 t) (iblk m c 2 t) (iblk m c 3 t) (ix2 r j)
    = rastOf m c ((win0_4.blk t).view.emb (ix2 r j))
  rw [e, rast_block, sigma_block, sigma_block, sigma_block, tail_block, tail_block, time_block, charge_block]
  rfl

/-- Grid point `t` writes its thousand rows of the second array. -/
theorem offsets_written (c : Dev nD) (t : Fin cfg0.N) :
    (dats m 0 c).flushed 5 t = (win0_5.blk t).view.read (Elt Ideal) (offsetsOf m c) := by
  rw [Cert.KernelIdeal.Value.flushed5]
  funext y
  obtain ⟨r, d, rfl⟩ : ∃ (r : Fin 1000) (d : Fin 3), y = ix2 r d := ⟨y 0, y 1, ValueIdx.eq_ix2 y⟩
  have e : ((win0_5.blk t).view.emb (ix2 r d) : S50000x3.Idx) = ix2 (row t r) d := by
    funext a
    apply Fin.ext
    match a with
    | ⟨0, _⟩ => show win0_5.index t 0 * 1000 + 1 * r.val = t.val * 1000 + r.val
                rw [show win0_5.index t 0 = t.val from index_at 5 t 0, one_mul]
    | ⟨1, _⟩ => show win0_5.index t 1 * 3 + 1 * d.val = d.val
                rw [show win0_5.index t 1 = 0 from index_at 5 t 1]; omega
  show out0_5 (F := Ideal) (iblk m c 0 t) (iblk m c 1 t) (iblk m c 2 t) (iblk m c 3 t) (ix2 r d)
    = offsetsOf m c ((win0_5.blk t).view.emb (ix2 r d))
  rw [e, offset_block, sigma_block, tail_block, tail_block, time_block]
  rfl

/-- Every index of the first array lies in the block of the grid point its row falls to. -/
theorem rast_covered (i : S50000x512.Idx) :
    ∃ t : Fin cfg0.N, (cfg0.win 4).flush t = true ∧ i ∈ ((cfg0.win 4).blk t).view.set := by
  have h0 : (i 0).val < 50000 := (i 0).isLt
  have h1 : (i 1).val < 512 := (i 1).isLt
  have ht : (i 0).val / 1000 < cfg0.N := by show _ < 50; omega
  refine ⟨⟨(i 0).val / 1000, ht⟩, flush0_4 _, ?_⟩
  show i ∈ ((View.whole main_v2_0).slice (win0_4.rect ⟨(i 0).val / 1000, ht⟩)).set
  rw [View.set_slice_whole, Rect.mem_set_unit]
  intro a
  match a with
  | ⟨0, _⟩ => show win0_4.index _ 0 * 1000 ≤ (i 0).val ∧ (i 0).val < win0_4.index _ 0 * 1000 + 1000
              rw [show win0_4.index ⟨(i 0).val / 1000, ht⟩ 0 = (i 0).val / 1000 from index_at 4 _ 0]; omega
  | ⟨1, _⟩ => show win0_4.index _ 1 * 512 ≤ (i 1).val ∧ (i 1).val < win0_4.index _ 1 * 512 + 512
              rw [show win0_4.index ⟨(i 0).val / 1000, ht⟩ 1 = 0 from index_at 4 _ 1]; omega

/-- And every index of the second. -/
theorem offsets_covered (i : S50000x3.Idx) :
    ∃ t : Fin cfg0.N, (cfg0.win 5).flush t = true ∧ i ∈ ((cfg0.win 5).blk t).view.set := by
  have h0 : (i 0).val < 50000 := (i 0).isLt
  have h1 : (i 1).val < 3 := (i 1).isLt
  have ht : (i 0).val / 1000 < cfg0.N := by show _ < 50; omega
  refine ⟨⟨(i 0).val / 1000, ht⟩, flush0_5 _, ?_⟩
  show i ∈ ((View.whole main_v2_1).slice (win0_5.rect ⟨(i 0).val / 1000, ht⟩)).set
  rw [View.set_slice_whole, Rect.mem_set_unit]
  intro a
  match a with
  | ⟨0, _⟩ => show win0_5.index _ 0 * 1000 ≤ (i 0).val ∧ (i 0).val < win0_5.index _ 0 * 1000 + 1000
              rw [show win0_5.index ⟨(i 0).val / 1000, ht⟩ 0 = (i 0).val / 1000 from index_at 5 _ 0]; omega
  | ⟨1, _⟩ => show win0_5.index _ 1 * 3 ≤ (i 1).val ∧ (i 1).val < win0_5.index _ 1 * 3 + 3
              rw [show win0_5.index ⟨(i 0).val / 1000, ht⟩ 1 = 0 from index_at 5 _ 1]; omega

/-- The kernel's run: both result arrays are those of the specification, and the arguments are unchanged. -/
theorem kernel_run :
    θ_run defs (onTc (τ := τ) (main (F := Ideal))) ⟨m, fun _ => 0, ρ⟩ fun r => ∀ c : Dev nD,
      r.2.mem ((c : Thread nD τ).loc main_v2_0) = rastOf m c
      ∧ r.2.mem ((c : Thread nD τ).loc main_v2_1) = offsetsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (rastOf m c) (fun t _ => rast_written m c t) rast_covered),
      (h c).2.1.trans ((dats m 0 c).arrAt_eq_of_cover 5 (offsetsOf m c) (fun t _ => offsets_written m c t) offsets_covered), (h c).2.2⟩)
    (Cert.KernelIdeal.Value.run_blocks (F := Ideal) m ρ)

end Cert.Raster

end
-- ==== Proof.Reference.lean ====
/- UNTRUSTED — the reference's two results are the arrays of Proof/Spec.lean. -/
module

public import proofs.«01_k».proof.Proof.Gen.ReferenceIdeal.Run
public import proofs.«01_k».proof.Proof.Consts
public import proofs.«01_k».proof.Proof.Spec
public import Idealize.ShloMosaic.Lib.Pointwise

@[expose] public section

noncomputable section

namespace Cert.Raster

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ) (ρ : Dev nD → PrngReg)

/-- The reference's first result, from any memory, is the array of patch values of its arguments. -/
theorem reference_rast (c : Dev nD) :
    res_out0 (F := Ideal) m c = rast (m ((c.tc : Thread nD τ).loc main_arg0)) (m ((c.tc : Thread nD τ).loc main_arg1))
      (m ((c.tc : Thread nD τ).loc main_arg2)) (m ((c.tc : Thread nD τ).loc main_arg3)) := by
  unfold res_out0 res_main_v62
  generalize m ((c.tc : Thread nD τ).loc main_arg0) = sigma
  generalize m ((c.tc : Thread nD τ).loc main_arg1) = time
  generalize m ((c.tc : Thread nD τ).loc main_arg2) = charge
  generalize m ((c.tc : Thread nD τ).loc main_arg3) = tail
  funext y
  obtain ⟨i, j, rfl⟩ : ∃ (i : Fin 50000) (j : Fin 512), y = ix2 i j := ⟨y 0, y 1, ValueIdx.eq_ix2 y⟩
  pointwise [root_two, div_unit]
  rfl

/-- The reference's second result: the array of first edges, column by column. -/
theorem reference_offsets (sigma : FVec Ideal S50000x3 .f32) (time : FVec Ideal S50000 .f32) (tail : FVec Ideal S50000x3 .f32) :
    fptosi 32 (Host.floor (Host.divf (subf ((concatenate S50000x3 1 [⟨S50000x1, ((broadcastInDim S50000x1 ![0] bcast_S50000_S50000x1_0 (shapeCast _ (extractStridedSlice S50000x1 ![0, 1] tail slices_S50000x3_S50000x1_0_1) shapeCasts_S50000x1_S50000)) : (⟨S50000x1, .f32⟩ : BufTy).Contents (Elt Ideal))⟩, ⟨S50000x1, ((broadcastInDim S50000x1 ![0] bcast_S50000_S50000x1_0 (shapeCast _ (extractStridedSlice S50000x1 ![0, 2] tail slices_S50000x3_S50000x1_0_2) shapeCasts_S50000x1_S50000)) : (⟨S50000x1, .f32⟩ : BufTy).Contents (Elt Ideal))⟩, ⟨S50000x1, ((broadcastInDim S50000x1 ![0] bcast_S50000_S50000x1_0 time) : (⟨S50000x1, .f32⟩ : BufTy).Contents (Elt Ideal))⟩] concatenates_S50000x1_S50000x1_S50000x1_S50000x3_d1 : (⟨S50000x3, .f32⟩ : BufTy).Contents (Elt Ideal))) (mulf (broadcastInDim S50000x3 ![] bcast_S_S50000x3 (constant S_ .f32 0x40400000#32)) (maximumf sigma (broadcastInDim S50000x3 ![] bcast_S_S50000x3 (constant S_ .f32 0x358637BD#32))))) (broadcastInDim S50000x3 ![0, 1] bcast_S1x3_S50000x3_0_1 (broadcastInDim S1x3 ![1] bcast_S3_S1x3_1 (constant S3 .f32 0x3F800000#32)))))
      = offsets sigma time tail := by
  funext y
  obtain ⟨i, d, rfl⟩ : ∃ (i : Fin 50000) (d : Fin 3), y = ix2 i d := ⟨y 0, y 1, ValueIdx.eq_ix2 y⟩
  match d with
  | 0 => pointwise [div_unit]; rfl
  | 1 => pointwise [div_unit]; rfl
  | 2 => pointwise [div_unit]; rfl

/-- The reference's run: both results are the arrays of the specification, and the arguments are unchanged. -/
theorem reference_run :
    θ_run defs (onTc (τ := τ) (main (F := Ideal))) ⟨m, fun _ => 0, ρ⟩ fun r => ∀ c : Dev nD,
      r.2.mem ((c.tc : Thread nD τ).loc main_v62) = rast (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v17) = offsets (m ((c.tc : Thread nD τ).loc main_arg0))
        (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (reference_rast m c), (h c).2.1.trans (reference_offsets _ _ _), (h c).2.2⟩)
    (Cert.ReferenceIdeal.Value.run (F := Ideal) m ρ)

end Cert.Raster

end
-- ==== Proof.lean ====
/- UNTRUSTED — the proof of `Cert.Claim` (Defs.lean): the frames of the kernel, of its idealization and of the reference;
   that the idealization is the kernel with its one rounded constant named; and that the idealized kernel and the
   reference end with equal results. Proof/Blocks.lean and Proof/Reference.lean evaluate the two programs to the arrays
   of Proof/Spec.lean; here the two runs are put side by side. -/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Blocks
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Raster

/-- The kernel runs, keeps its arguments, and ends with every counter at zero. -/
theorem kernel_frame : Cert.quiescent_Kernel (hKernel := Cert.Kernel.Gen.facts) :=
  fun m ρ _ => Cert.Kernel.Gen.frame m ρ

/-- So does its idealization. -/
theorem ideal_frame : Cert.quiescent_KernelIdeal (hKernelIdeal := Cert.KernelIdeal.Gen.facts) :=
  fun m ρ _ => Cert.KernelIdeal.Gen.frame m ρ

/-- So does the reference, which has no counters at all. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (reference_run m ρ)

/-- The idealization differs from the kernel in the named constant alone: its word is the rounded `√2`. -/
theorem named : Cert.preserves_Kernel_KernelIdeal :=
  IdealRules.named_const.statement Cert.KernelIdeal.κ "sqrt2" .f32 0x3FB504F3#32 ((Real.sqrt 2 : ℝ) : EReal) rfl

/-- From memories that agree on the arguments both programs end with the patch values and the first edges of those
    arguments, equal as extended reals and as integers, and with their arguments unchanged. -/
theorem equal_results : Cert.algebraic_KernelIdeal_ReferenceIdeal (hKernelIdeal := Cert.KernelIdeal.Gen.facts)
    (hReferenceIdeal := Cert.ReferenceIdeal.Gen.facts) := by
  intro m ρ m' ρ' _ agree
  refine ⟨fun c => rastOf m c, fun c => offsetsOf m c, kernel_run m ρ, ?_⟩
  refine (θ_run Cert.ReferenceIdeal.defs _ _).mono (fun r h c => ?_) (reference_run m' ρ')
  obtain ⟨a0, a1, a2, a3⟩ := agree c
  refine ⟨(h c).1.trans ?_, (h c).2.1.trans ?_, (h c).2.2⟩
  · exact (congr (congr (congr (congrArg rast a0) a1) a2) a3)
  · exact (congr (congr (congrArg offsets a0) a1) a3)

theorem claim : Cert.Claim :=
  ⟨Cert.Kernel.Gen.facts, Cert.KernelIdeal.Gen.facts, Cert.ReferenceIdeal.Gen.facts,
    kernel_frame, ideal_frame, reference_frame, named, equal_results⟩

end Cert.Proof

end
